-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S4096x10000 : Shape := ⟨2, ![4096, 10000]⟩
abbrev S4096x128 : Shape := ⟨2, ![4096, 128]⟩
abbrev S256x10000 : Shape := ⟨2, ![256, 10000]⟩
abbrev S256x128 : Shape := ⟨2, ![256, 128]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S10000x128, .f32⟩
  | .hbm, ⟨1, _⟩ => ⟨S4096x10000, .i1⟩
  | .hbm, ⟨2, _⟩ => ⟨S10000x128, .bf16⟩
  | .hbm, ⟨3, _⟩ => ⟨S4096x10000, .i4⟩
  | .hbm, ⟨4, _⟩ => ⟨S4096x128, .f32⟩
  | .local _ .vmem, ⟨0, _⟩ => ⟨S256x10000, .i4⟩
  | .local _ .vmem, ⟨1, _⟩ => ⟨S256x10000, .i4⟩
  | .local _ .vmem, ⟨2, _⟩ => ⟨S10000x128, .bf16⟩
  | .local _ .vmem, ⟨3, _⟩ => ⟨S256x128, .f32⟩
  | .local _ .vmem, ⟨4, _⟩ => ⟨S256x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10000 .i4 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S10000x128 : Shape := ⟨2, ![10000, 128]⟩
abbrev S4096x10000 : Shape := ⟨2, ![4096, 10000]⟩
abbrev S_ : Shape := ⟨0, ![]⟩
abbrev S4096 : Shape := ⟨1, ![4096]⟩
abbrev S4096x1 : Shape := ⟨2, ![4096, 1]⟩
abbrev S4096x128 : Shape := ⟨2, ![4096, 128]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S4096x10000, .i1⟩
  | .hbm, ⟨2, _⟩ => ⟨S4096x10000, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x128, .f32⟩
  | .hbm, ⟨7, _⟩ => ⟨S_, .f32⟩
  | .hbm, ⟨8, _⟩ => ⟨S4096x1, .f32⟩
  | .hbm, ⟨9, _⟩ => ⟨S4096x1, .i1⟩
  | .hbm, ⟨10, _⟩ => ⟨S_, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .i1⟩
  | .hbm, ⟨17, _⟩ => ⟨S4096x128, .f32⟩
  | .hbm, ⟨18, _⟩ => ⟨S4096x128, .f32⟩
  | .hbm, ⟨19, _⟩ => ⟨S_, .f32⟩
  | .hbm, ⟨20, _⟩ => ⟨S_, .f32⟩
  | .hbm, ⟨21, _⟩ => ⟨S4096x128, .i1⟩
  | .hbm, ⟨22, _⟩ => ⟨S4096x128, .f32⟩
  | .hbm, ⟨23, _⟩ => ⟨S4096x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Mean.lean ====
/-
  The mathematics of the problem, over the extended reals: the mean of a selection, and why dividing by
  `max n 1` and dividing by `n` guarded at zero are the same thing when `n` counts selected elements.
-/
module

public import Idealize.ShloMosaic.PureOps.Ideal

@[expose] public section

noncomputable section

open Idealize.ShloMosaic
open scoped BigOperators

namespace Cert.Proof.Mean

/-- A one-bit word as a number: 1 where the bit is set, 0 where it is not. -/
def bit (b : BitVec 1) : EReal := if b = 1#1 then 1 else 0

/-- How many of the `n` selectors are set. -/
def count {n : Nat} (sel : Fin n → BitVec 1) : EReal := ∑ k, bit (sel k)

/-- The sum of the selected values. -/
def total {n : Nat} (sel : Fin n → BitVec 1) (x : Fin n → EReal) : EReal := ∑ k, bit (sel k) * x k

/-- The mean of the selected values, 0 where nothing is selected. -/
def mean {n : Nat} (sel : Fin n → BitVec 1) (x : Fin n → EReal) : EReal :=
  if 0 < count sel then Ideal.div (total sel x) (count sel) else 0

/-- A selector's number is not negative. -/
theorem bit_nonneg (b : BitVec 1) : 0 ≤ bit b := by
  unfold bit; split <;> simp

/-- A count that is positive is at least one: some selector is set, and it alone contributes one. -/
theorem one_le_count {n : Nat} (sel : Fin n → BitVec 1) (h : 0 < count sel) : 1 ≤ count sel := by
  obtain ⟨k, hk⟩ : ∃ k, sel k = 1#1 := by
    by_contra hne
    have h0 : count sel = 0 := Finset.sum_eq_zero fun k _ => if_neg fun hk => hne ⟨k, hk⟩
    exact absurd h (by rw [h0]; exact lt_irrefl _)
  calc (1 : EReal) = bit (sel k) := (if_pos hk).symm
    _ ≤ count sel := Finset.single_le_sum (f := fun k => bit (sel k)) (fun i _ => bit_nonneg _) (Finset.mem_univ k)

/-- The guarded division by the count clamped from below at one is the mean. -/
theorem mean_of_clamped {n : Nat} (sel : Fin n → BitVec 1) (x : Fin n → EReal) :
    (if 0 < count sel then Ideal.div (total sel x) (max (count sel) 1) else 0) = mean sel x := by
  unfold mean
  split
  · next h => rw [max_eq_left (one_le_count sel h)]
  · rfl

/-- The guarded division by the count with one put in zero's place is the mean. -/
theorem mean_of_replaced {n : Nat} (sel : Fin n → BitVec 1) (x : Fin n → EReal) :
    (if 0 < count sel then Ideal.div (total sel x) (if 0 < count sel then count sel else 1) else 0) = mean sel x := by
  unfold mean
  split <;> rfl

/-- A bit widened to four bits and read as a signed integer is the bit's number. -/
theorem sitofp_extui (φ : FTy) (b : BitVec 1) :
    FloatOps.sitofp (F := Ideal) φ (b.setWidth 4) = bit b := by
  show (((b.setWidth 4).toInt : ℝ) : EReal) = bit b
  rcases BitVec.eq_zero_or_eq_one b with rfl | rfl <;> simp [bit]

/-- A bit read as an unsigned integer is the bit's number. -/
theorem uitofp_bit (φ : FTy) (b : BitVec 1) : FloatOps.uitofp (F := Ideal) φ b = bit b := by
  show ((b.toNat : ℝ) : EReal) = bit b
  rcases BitVec.eq_zero_or_eq_one b with rfl | rfl <;> simp [bit]

end Cert.Proof.Mean

end
-- ==== Proof.KernelValue.lean ====
/-
  What the idealized kernel's result array holds after the run: row `r`, lane `l` is the mean, over the nodes that
  row `r` of the mask selects, of lane `l` of the node embeddings.
-/
module

public import proofs.«01_k».proof.Proof.Mean
public import proofs.«01_k».proof.Proof.Gen.KernelIdeal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Proof.KernelValue

open Cert.KernelIdeal Cert.KernelIdeal.Gen

/-- The array of means: at `(r, l)` the mean of lane `l` over the nodes selected by mask row `r`. -/
def means (e : (⟨S10000x128, .f32⟩ : BufTy).Contents (Elt Ideal)) (b : (⟨S4096x10000, .i1⟩ : BufTy).Contents (Elt Ideal)) :
    (⟨S4096x128, .f32⟩ : BufTy).Contents (Elt Ideal) :=
  fun i => Mean.mean (fun k : Fin 10000 => b (ix2 (i 0) k)) (fun k => e (ix2 k (i 1)))

variable (m : (ℓ : Loc nD τ sig) → Buf (Elt Ideal) ℓ) (ρ : Dev nD → PrngReg)

/-- One block: if the mask block's row `r` is a row of bits widened to four bits, the stored payload at `(r, l)` is
    the mean of lane `l` over the nodes that these bits select. -/
theorem payload_apply (x0 : Vec Ideal S256x10000 .i4) (x1 : Vec Ideal S10000x128 .bf16) (r : Fin 256) (l : Fin 128)
    (sel : Fin 10000 → BitVec 1) (hsel : ∀ k, x0 (ix2 r k) = (sel k).setWidth 4) :
    k0_pay1 (F := Ideal) x0 x1 (ix2 r l) = Mean.mean sel fun k => x1 (ix2 k l) := by
  rw [← Mean.mean_of_clamped]
  pointwise [k0_pay1]
  simp only [hsel, Mean.sitofp_extui]
  rfl

/-- When the kernel starts, its second operand holds the embeddings: over the reals the cast changes nothing. -/
theorem entry_embeddings (c : Dev nD) (i : S10000x128.Idx) :
    V m c main_v0 i = m ((c : Thread nD τ).loc main_arg0) i := by
  unfold V
  after_results
  rfl

/-- When the kernel starts, its first operand holds the mask's bits, widened to four bits. -/
theorem entry_mask (c : Dev nD) (i : S4096x10000.Idx) :
    V m c main_v1 i = (m ((c : Thread nD τ).loc main_arg1) i : BitVec 1).setWidth 4 := by
  unfold V
  after_results
  rfl

/-- The blocks at point `t`: rows `256 t …` of the mask and of the result, all of the embeddings. -/
theorem idx : ∀ t : Fin grid0.N, win0_0.index t = ![t.val, 0] ∧ win0_1.index t = ![0, 0] ∧ win0_2.index t = ![t.val, 0] := by
  decide +kernel

/-- Point `t`'s block of the mask at `(r, k)` is the bit of array row `256 t + r`, widened to four bits. -/
theorem mask_block (c : Dev nD) (t : Fin cfg0.N) (r : Fin 256) (k : Fin 10000) (R : Fin 4096) (hR : R.val = t.val * 256 + r.val) :
    iblk m c 0 t (ix2 r k) = (m ((c : Thread nD τ).loc main_arg1) (ix2 R k) : BitVec 1).setWidth 4 := by
  refine (entry_mask m c _).trans (congrArg (fun i => BitVec.setWidth 4 (m ((c : Thread nD τ).loc main_arg1) i)) ?_)
  blk_ext [idx t, hR]

/-- Every point's block of the embeddings is the whole array. -/
theorem embeddings_block (c : Dev nD) (t : Fin cfg0.N) (k : Fin 10000) (l : Fin 128) :
    iblk m c 1 t (ix2 k l) = m ((c : Thread nD τ).loc main_arg0) (ix2 k l) := by
  refine (entry_embeddings m c _).trans (congrArg (m ((c : Thread nD τ).loc main_arg0)) ?_)
  blk_ext [idx t]

/-- After the run the result array is the array of means. -/
theorem final (c : Dev nD) : (dats m 0 c).arrAt 2 cfg0.N
    = means (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, l, rfl⟩ : ∃ (r : Fin 256) (l : Fin 128), y = ix2 r l := ⟨y 0, y 1, eq_ix2 y⟩
  have hR : t.val * 256 + r.val < 4096 := by
    have ht : t.val < 16 := t.isLt
    have := r.isLt
    omega
  have hi : ((View.whole main_v2).slice (win0_2.rect t)).emb (ix2 r l) = ix2 ⟨t.val * 256 + r.val, hR⟩ l := by
    blk_ext [idx t]
  rw [hi]
  refine (payload_apply _ _ r l _ fun k => mask_block m c t r k ⟨_, hR⟩ rfl).trans ?_
  exact congrArg (Mean.mean _) (funext fun k => embeddings_block m c t k l)

/-- The run: the result array at the means, the arguments unchanged. -/
theorem run : θ_run defs (onTc (τ := τ) (main (F := Ideal))) ⟨m, fun _ => 0, ρ⟩ fun r => ∀ c : Dev nD,
      r.2.mem ((c : Thread nD τ).loc main_v2)
        = means (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Proof.KernelValue

end
-- ==== Proof.RefValue.lean ====
/-
  What the reference computes, over the extended reals: the same array of means.
-/
module

public import proofs.«01_k».proof.Proof.Mean
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.Proof.RefValue

open Cert.ReferenceIdeal Cert.ReferenceIdeal.Gen

variable (m : (ℓ : Loc nD τ sig) → Buf (Elt Ideal) ℓ) (ρ : Dev nD → PrngReg)

/-- The run: the result at `(r, l)` is the mean of lane `l` over the nodes selected by mask row `r`; the arguments
    end unchanged. -/
theorem run : θ_run defs (onTc (τ := τ) (main (F := Ideal))) ⟨m, fun _ => 0, ρ⟩ fun r => ∀ c : Dev nD,
      r.2.mem ((c.tc : Thread nD τ).loc main_v11)
        = (fun i : S4096x128.Idx => Mean.mean (fun k : Fin 10000 => m ((c.tc : Thread nD τ).loc main_arg1) (ix2 (i 0) k))
            (fun k => m ((c.tc : Thread nD τ).loc main_arg0) (ix2 k (i 1))))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans (funext fun i => ?_), (h c).2⟩) (Value.run (F := Ideal) m ρ)
  rw [← Mean.mean_of_replaced]
  pointwise [id_eq]
  simp only [Mean.uitofp_bit]
  rfl

end Cert.Proof.RefValue

end
-- ==== Proof.lean ====
/- The certificate's claims assembled: the three frames, the idealization, and the equality of the kernel's and the
   reference's results over the extended reals. Kernel: Proof/KernelValue.lean; reference: Proof/RefValue.lean; the
   mathematics they share: Proof/Mean.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments unchanged and every counter at zero (it has no semaphore). -/
theorem frame_reference : Cert.quiescent_ReferenceIdeal := fun m ρ _ =>
  (θ_run Cert.ReferenceIdeal.defs _ _).mono
    (fun r h => ⟨fun c => (h c).2, sem_eq_zero_of_no_sems (by decide) r.2⟩)
    (RefValue.run m ρ)

/-- Over the extended reals kernel and reference compute the same array: at `(r, l)` the mean of lane `l` of the
    embeddings of the nodes that mask row `r` selects, 0 where it selects none. -/
theorem algebraic : Cert.algebraic_KernelIdeal_ReferenceIdeal := by
  intro m ρ m' ρ' _ hagree
  refine ⟨fun c => KernelValue.means
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), KernelValue.run m ρ, ?_⟩
  refine (θ_run Cert.ReferenceIdeal.defs _ _).mono (fun _ h c => ⟨(h c).1.trans ?_, (h c).2⟩) (RefValue.run m' ρ')
  rw [(hagree c).1, (hagree c).2]
  rfl

/-- Everything that the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
